-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x40320x99 : Shape := ⟨3, ![8, 40320, 99]⟩
abbrev S86 : Shape := ⟨1, ![86]⟩
abbrev S12672 : Shape := ⟨1, ![12672]⟩
abbrev S249480x128 : Shape := ⟨2, ![249480, 128]⟩
abbrev S_ : Shape := ⟨0, ![]⟩
abbrev S99 : Shape := ⟨1, ![99]⟩
abbrev S1 : Shape := ⟨1, ![1]⟩
abbrev S12672x1 : Shape := ⟨2, ![12672, 1]⟩
abbrev S99x128 : Shape := ⟨2, ![99, 128]⟩
abbrev S1x99x1x128 : Shape := ⟨4, ![1, 99, 1, 128]⟩
abbrev S24x99x1x128 : Shape := ⟨4, ![24, 99, 1, 128]⟩
abbrev S2376x128 : Shape := ⟨2, ![2376, 128]⟩

abbrev nBuf : Space → Nat
  | .hbm => 62
  | .vmem => 6
  | .smem => 0
  | _ => 0

abbrev bufTy : (tb : Table) → Fin (tcTables nBuf tb) → BufTy
  | .hbm, ⟨0, _⟩ => ⟨S8x40320x99, .f32⟩
  | .hbm, ⟨1, _⟩ => ⟨S86, .f32⟩
  | .hbm, ⟨2, _⟩ => ⟨S86, .f32⟩
  | .hbm, ⟨3, _⟩ => ⟨S12672, .i32⟩
  | .hbm, ⟨4, _⟩ => ⟨S12672, .i1⟩
  | .hbm, ⟨5, _⟩ => ⟨S12672, .i1⟩
  | .hbm, ⟨6, _⟩ => ⟨S249480x128, .f32⟩
  | .hbm, ⟨7, _⟩ => ⟨S_, .f32⟩
  | .hbm, ⟨8, _⟩ => ⟨S99, .f32⟩
  | .hbm, ⟨9, _⟩ => ⟨S_, .f32⟩
  | .hbm, ⟨10, _⟩ => ⟨S99, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i32⟩
  | .hbm, ⟨15, _⟩ => ⟨S1, .i32⟩
  | .hbm, ⟨16, _⟩ => ⟨S99, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i32⟩
  | .hbm, ⟨21, _⟩ => ⟨S1, .i32⟩
  | .hbm, ⟨22, _⟩ => ⟨S99, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .i32⟩
  | .hbm, ⟨27, _⟩ => ⟨S1, .i32⟩
  | .hbm, ⟨28, _⟩ => ⟨S99, .f32⟩
  | .hbm, ⟨29, _⟩ => ⟨S_, .f32⟩
  | .hbm, ⟨30, _⟩ => ⟨S86, .f32⟩
  | .hbm, ⟨31, _⟩ => ⟨S86, .f32⟩
  | .hbm, ⟨32, _⟩ => ⟨S_, .i32⟩
  | .hbm, ⟨33, _⟩ => ⟨S1, .i32⟩
  | .hbm, ⟨34, _⟩ => ⟨S99, .f32⟩
  | .hbm, ⟨35, _⟩ => ⟨S86, .f32⟩
  | .hbm, ⟨36, _⟩ => ⟨S86, .f32⟩
  | .hbm, ⟨37, _⟩ => ⟨S_, .i32⟩
  | .hbm, ⟨38, _⟩ => ⟨S1, .i32⟩
  | .hbm, ⟨39, _⟩ => ⟨S99, .f32⟩
  | .hbm, ⟨40, _⟩ => ⟨S_, .i32⟩
  | .hbm, ⟨41, _⟩ => ⟨S12672, .i32⟩
  | .hbm, ⟨42, _⟩ => ⟨S12672, .i32⟩
  | .hbm, ⟨43, _⟩ => ⟨S12672, .i32⟩
  | .hbm, ⟨44, _⟩ => ⟨S12672x1, .i32⟩
  | .hbm, ⟨45, _⟩ => ⟨S12672, .f32⟩
  | .hbm, ⟨46, _⟩ => ⟨S99x128, .f32⟩
  | .hbm, ⟨47, _⟩ => ⟨S1x99x1x128, .f32⟩
  | .hbm, ⟨48, _⟩ => ⟨S24x99x1x128, .f32⟩
  | .hbm, ⟨49, _⟩ => ⟨S2376x128, .f32⟩
  | .hbm, ⟨50, _⟩ => ⟨S_, .i32⟩
  | .hbm, ⟨51, _⟩ => ⟨S12672, .i32⟩
  | .hbm, ⟨52, _⟩ => ⟨S12672, .i32⟩
  | .hbm, ⟨53, _⟩ => ⟨S12672, .i32⟩
  | .hbm, ⟨54, _⟩ => ⟨S12672x1, .i32⟩
  | .hbm, ⟨55, _⟩ => ⟨S12672, .f32⟩
  | .hbm, ⟨56, _⟩ => ⟨S99x128, .f32⟩
  | .hbm, ⟨57, _⟩ => ⟨S1x99x1x128, .f32⟩
  | .hbm, ⟨58, _⟩ => ⟨S24x99x1x128, .f32⟩
  | .hbm, ⟨59, _⟩ => ⟨S2376x128, .f32⟩
  | .hbm, ⟨60, _⟩ => ⟨S249480x128, .f32⟩
  | .hbm, ⟨61, _⟩ => ⟨S8x40320x99, .f32⟩
  | .local _ .vmem, ⟨0, _⟩ => ⟨S2376x128, .f32⟩
  | .local _ .vmem, ⟨1, _⟩ => ⟨S2376x128, .f32⟩
  | .local _ .vmem, ⟨2, _⟩ => ⟨S2376x128, .f32⟩
  | .local _ .vmem, ⟨3, _⟩ => ⟨S2376x128, .f32⟩
  | .local _ .vmem, ⟨4, _⟩ => ⟨S2376x128, .f32⟩
  | .local _ .vmem, ⟨5, _⟩ => ⟨S2376x128, .f32⟩
  | _, _ => ⟨S8x40320x99, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_cst_0 : Ref sig .tc := ⟨.hbm, 2, rfl⟩
abbrev main_call0_c : Ref sig .tc := ⟨.hbm, 3, rfl⟩
abbrev main_call0_c_1 : Ref sig .tc := ⟨.hbm, 4, rfl⟩
abbrev main_call0_c_2 : Ref sig .tc := ⟨.hbm, 5, rfl⟩
abbrev main_call0_v0 : Ref sig .tc := ⟨.hbm, 6, rfl⟩
abbrev main_call0_cst_3 : Ref sig .tc := ⟨.hbm, 7, rfl⟩
abbrev main_call0_v1 : Ref sig .tc := ⟨.hbm, 8, rfl⟩
abbrev main_call0_cst_4 : Ref sig .tc := ⟨.hbm, 9, rfl⟩
abbrev main_call0_v2 : Ref sig .tc := ⟨.hbm, 10, rfl⟩
abbrev main_call0_cst_5 : Ref sig .tc := ⟨.hbm, 11, rfl⟩
abbrev main_call0_cst_6 : Ref sig .tc := ⟨.hbm, 12, rfl⟩
abbrev main_call0_v3 : Ref sig .tc := ⟨.hbm, 13, rfl⟩
abbrev main_call0_c_7 : Ref sig .tc := ⟨.hbm, 14, rfl⟩
abbrev main_call0_v4 : Ref sig .tc := ⟨.hbm, 15, rfl⟩
abbrev main_call0_v5 : Ref sig .tc := ⟨.hbm, 16, rfl⟩
abbrev main_call0_cst_8 : Ref sig .tc := ⟨.hbm, 17, rfl⟩
abbrev main_call0_cst_9 : Ref sig .tc := ⟨.hbm, 18, rfl⟩
abbrev main_call0_v6 : Ref sig .tc := ⟨.hbm, 19, rfl⟩
abbrev main_call0_c_10 : Ref sig .tc := ⟨.hbm, 20, rfl⟩
abbrev main_call0_v7 : Ref sig .tc := ⟨.hbm, 21, rfl⟩
abbrev main_call0_v8 : Ref sig .tc := ⟨.hbm, 22, rfl⟩
abbrev main_call0_cst_11 : Ref sig .tc := ⟨.hbm, 23, rfl⟩
abbrev main_call0_cst_12 : Ref sig .tc := ⟨.hbm, 24, rfl⟩
abbrev main_call0_v9 : Ref sig .tc := ⟨.hbm, 25, rfl⟩
abbrev main_call0_c_13 : Ref sig .tc := ⟨.hbm, 26, rfl⟩
abbrev main_call0_v10 : Ref sig .tc := ⟨.hbm, 27, rfl⟩
abbrev main_call0_v11 : Ref sig .tc := ⟨.hbm, 28, rfl⟩
abbrev main_call0_cst_14 : Ref sig .tc := ⟨.hbm, 29, rfl⟩
abbrev main_call0_v12 : Ref sig .tc := ⟨.hbm, 30, rfl⟩
abbrev main_call0_v13 : Ref sig .tc := ⟨.hbm, 31, rfl⟩
abbrev main_call0_c_15 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_c_16 : Ref sig .tc := ⟨.hbm, 37, rfl⟩
abbrev main_call0_v18 : Ref sig .tc := ⟨.hbm, 38, rfl⟩
abbrev main_call0_v19 : Ref sig .tc := ⟨.hbm, 39, rfl⟩
abbrev main_call0_c_17 : Ref sig .tc := ⟨.hbm, 40, rfl⟩
abbrev main_call0_v20 : Ref sig .tc := ⟨.hbm, 41, rfl⟩
abbrev main_call0_v21 : Ref sig .tc := ⟨.hbm, 42, rfl⟩
abbrev main_call0_v22 : Ref sig .tc := ⟨.hbm, 43, rfl⟩
abbrev main_call0_v23 : Ref sig .tc := ⟨.hbm, 44, rfl⟩
abbrev main_call0_v24 : Ref sig .tc := ⟨.hbm, 45, rfl⟩
abbrev main_call0_v25 : Ref sig .tc := ⟨.hbm, 46, rfl⟩
abbrev main_call0_v26 : Ref sig .tc := ⟨.hbm, 47, rfl⟩
abbrev main_call0_v27 : Ref sig .tc := ⟨.hbm, 48, rfl⟩
abbrev main_call0_v28 : Ref sig .tc := ⟨.hbm, 49, rfl⟩
abbrev main_call0_c_18 : Ref sig .tc := ⟨.hbm, 50, rfl⟩
abbrev main_call0_v29 : Ref sig .tc := ⟨.hbm, 51, rfl⟩
abbrev main_call0_v30 : Ref sig .tc := ⟨.hbm, 52, rfl⟩
abbrev main_call0_v31 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_v35 : Ref sig .tc := ⟨.hbm, 57, rfl⟩
abbrev main_call0_v36 : Ref sig .tc := ⟨.hbm, 58, rfl⟩
abbrev main_call0_v37 : Ref sig .tc := ⟨.hbm, 59, rfl⟩
abbrev main_call0_v38 : Ref sig .tc := ⟨.hbm, 60, rfl⟩
abbrev main_v0 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![105], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2376x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2376x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2376x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2376x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x40320x99 : Shape := ⟨3, ![8, 40320, 99]⟩
abbrev S3 : Shape := ⟨1, ![3]⟩
abbrev S86 : Shape := ⟨1, ![86]⟩
abbrev S_ : Shape := ⟨0, ![]⟩
abbrev S3x1 : Shape := ⟨2, ![3, 1]⟩
abbrev S8x40320x3 : Shape := ⟨3, ![8, 40320, 3]⟩
abbrev S1x1x3 : Shape := ⟨3, ![1, 1, 3]⟩
abbrev S86x1 : Shape := ⟨2, ![86, 1]⟩
abbrev S8x40320x86 : Shape := ⟨3, ![8, 40320, 86]⟩
abbrev S1x1x86 : Shape := ⟨3, ![1, 1, 86]⟩

abbrev nBuf : Space → Nat
  | .hbm => 54
  | .vmem => 0
  | .smem => 0
  | _ => 0

abbrev bufTy : (tb : Table) → Fin (tcTables nBuf tb) → BufTy
  | .hbm, ⟨0, _⟩ => ⟨S8x40320x99, .f32⟩
  | .hbm, ⟨1, _⟩ => ⟨S3, .i32⟩
  | .hbm, ⟨2, _⟩ => ⟨S3, .f32⟩
  | .hbm, ⟨3, _⟩ => ⟨S86, .f32⟩
  | .hbm, ⟨4, _⟩ => ⟨S86, .f32⟩
  | .hbm, ⟨5, _⟩ => ⟨S86, .i32⟩
  | .hbm, ⟨6, _⟩ => ⟨S_, .i32⟩
  | .hbm, ⟨7, _⟩ => ⟨S86, .i32⟩
  | .hbm, ⟨8, _⟩ => ⟨S86, .i32⟩
  | .hbm, ⟨9, _⟩ => ⟨S_, .i32⟩
  | .hbm, ⟨10, _⟩ => ⟨S3, .i32⟩
  | .hbm, ⟨11, _⟩ => ⟨S3, .i1⟩
  | .hbm, ⟨12, _⟩ => ⟨S_, .i32⟩
  | .hbm, ⟨13, _⟩ => ⟨S3, .i32⟩
  | .hbm, ⟨14, _⟩ => ⟨S3, .i32⟩
  | .hbm, ⟨15, _⟩ => ⟨S3, .i32⟩
  | .hbm, ⟨16, _⟩ => ⟨S3x1, .i32⟩
  | .hbm, ⟨17, _⟩ => ⟨S8x40320x3, .f32⟩
  | .hbm, ⟨18, _⟩ => ⟨S1x1x3, .f32⟩
  | .hbm, ⟨19, _⟩ => ⟨S8x40320x3, .f32⟩
  | .hbm, ⟨20, _⟩ => ⟨S8x40320x3, .f32⟩
  | .hbm, ⟨21, _⟩ => ⟨S_, .i32⟩
  | .hbm, ⟨22, _⟩ => ⟨S3, .i32⟩
  | .hbm, ⟨23, _⟩ => ⟨S3, .i1⟩
  | .hbm, ⟨24, _⟩ => ⟨S_, .i32⟩
  | .hbm, ⟨25, _⟩ => ⟨S3, .i32⟩
  | .hbm, ⟨26, _⟩ => ⟨S3, .i32⟩
  | .hbm, ⟨27, _⟩ => ⟨S3, .i32⟩
  | .hbm, ⟨28, _⟩ => ⟨S3x1, .i32⟩
  | .hbm, ⟨29, _⟩ => ⟨S8x40320x99, .f32⟩
  | .hbm, ⟨30, _⟩ => ⟨S_, .i32⟩
  | .hbm, ⟨31, _⟩ => ⟨S86, .i32⟩
  | .hbm, ⟨32, _⟩ => ⟨S86, .i1⟩
  | .hbm, ⟨33, _⟩ => ⟨S_, .i32⟩
  | .hbm, ⟨34, _⟩ => ⟨S86, .i32⟩
  | .hbm, ⟨35, _⟩ => ⟨S86, .i32⟩
  | .hbm, ⟨36, _⟩ => ⟨S86, .i32⟩
  | .hbm, ⟨37, _⟩ => ⟨S86x1, .i32⟩
  | .hbm, ⟨38, _⟩ => ⟨S8x40320x86, .f32⟩
  | .hbm, ⟨39, _⟩ => ⟨S1x1x86, .f32⟩
  | .hbm, ⟨40, _⟩ => ⟨S8x40320x86, .f32⟩
  | .hbm, ⟨41, _⟩ => ⟨S8x40320x86, .f32⟩
  | .hbm, ⟨42, _⟩ => ⟨S1x1x86, .f32⟩
  | .hbm, ⟨43, _⟩ => ⟨S8x40320x86, .f32⟩
  | .hbm, ⟨44, _⟩ => ⟨S8x40320x86, .f32⟩
  | .hbm, ⟨45, _⟩ => ⟨S_, .i32⟩
  | .hbm, ⟨46, _⟩ => ⟨S86, .i32⟩
  | .hbm, ⟨47, _⟩ => ⟨S86, .i1⟩
  | .hbm, ⟨48, _⟩ => ⟨S_, .i32⟩
  | .hbm, ⟨49, _⟩ => ⟨S86, .i32⟩
  | .hbm, ⟨50, _⟩ => ⟨S86, .i32⟩
  | .hbm, ⟨51, _⟩ => ⟨S86, .i32⟩
  | .hbm, ⟨52, _⟩ => ⟨S86x1, .i32⟩
  | .hbm, ⟨53, _⟩ => ⟨S8x40320x99, .f32⟩
  | _, _ => ⟨S8x40320x99, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_c_2 : Ref sig .tc := ⟨.hbm, 6, rfl⟩
abbrev main_v1 : Ref sig .tc := ⟨.hbm, 7, rfl⟩
abbrev main_v2 : Ref sig .tc := ⟨.hbm, 8, rfl⟩
abbrev main_c_3 : Ref sig .tc := ⟨.hbm, 9, rfl⟩
abbrev main_v3 : Ref sig .tc := ⟨.hbm, 10, rfl⟩
abbrev main_v4 : Ref sig .tc := ⟨.hbm, 11, rfl⟩
abbrev main_c_4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_5 : Ref sig .tc := ⟨.hbm, 21, rfl⟩
abbrev main_v13 : Ref sig .tc := ⟨.hbm, 22, rfl⟩
abbrev main_v14 : Ref sig .tc := ⟨.hbm, 23, rfl⟩
abbrev main_c_6 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_7 : Ref sig .tc := ⟨.hbm, 30, rfl⟩
abbrev main_v20 : Ref sig .tc := ⟨.hbm, 31, rfl⟩
abbrev main_v21 : Ref sig .tc := ⟨.hbm, 32, rfl⟩
abbrev main_c_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_9 : Ref sig .tc := ⟨.hbm, 45, rfl⟩
abbrev main_v33 : Ref sig .tc := ⟨.hbm, 46, rfl⟩
abbrev main_v34 : Ref sig .tc := ⟨.hbm, 47, rfl⟩
abbrev main_c_10 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proof.Host.lean ====
/- What the kernel's program holds when its region starts: the argument laid out as rows of 128, and the two
   pattern blocks, each as the operations of the host prefix compose it. The compositions get names here —
   the column tables (scale and shift), the table positions, the block a table is spread over — so that the
   next modules read them an entry at a time. -/
module

public import proofs.«01_k».proof.Proof.Gen.KernelIdeal.Frame

@[expose] public section

noncomputable section

namespace Cert.Affine

open Cert.KernelIdeal Cert.KernelIdeal.Gen
open Idealize.ShloMosaic Idealize.ShloMosaic.TcCoe Idealize.ShloMosaic.StableHlo Idealize.SL.Sem

variable {F : FTy → Type} [FloatOps F]

/-- The means of the last 86 columns. -/
def means : Vec F S86 .f32 := fun i => FloatOps.ofBits .f32 (lit0 (S86.rowMajor i))

/-- The deviations of the last 86 columns. -/
def devs : Vec F S86 .f32 := fun i => FloatOps.ofBits .f32 (lit1 (S86.rowMajor i))

/-- A table with the reciprocal of the number `w` put at place `p`. -/
def putInv (t : Vec F S99 .f32) (p w : BitVec 32) : Vec F S99 .f32 :=
  Host.scatter scatter_S99_S1_S__n_0_0_0 (fun _ b => b) t (broadcastInDim S1 ![] bcast_S_S1 (constantI S_ 32 p))
    (Host.divf (constant S_ .f32 0x3F800000#32) (constant S_ .f32 w))

/-- A table with its last 86 entries replaced. -/
def putTail (t : Vec F S99 .f32) (u : Vec F S86 .f32) : Vec F S99 .f32 :=
  Host.scatter scatter_S99_S1_S86_0_n_0_0 (fun _ b => b) t (broadcastInDim S1 ![] bcast_S_S1 (constantI S_ 32 13#32)) u

/-- The factor of each column. -/
def scaleTable : Vec F S99 .f32 :=
  putTail
    (putInv (putInv (putInv (broadcastInDim S99 ![] bcast_S_S99 (constant S_ .f32 0x3F800000#32)) 10#32 0x41300000#32)
      11#32 0x41400000#32) 12#32 0x41500000#32)
    (Host.divf (broadcastInDim S86 ![] bcast_S_S86 (constant S_ .f32 0x3F800000#32)) devs)

/-- The shift of each column. -/
def shiftTable : Vec F S99 .f32 :=
  putTail (broadcastInDim S99 ![] bcast_S_S99 (constant S_ .f32 0x00000000#32)) (Host.negf (Host.divf means devs))

/-- The table position that each place of a period block names. -/
def places : IVec S12672 32 := fun i => lit2 (S12672.rowMajor i)

/-- The table positions read at each place: those named, as none of them is counted from the end. -/
def positions : IVec S12672 32 :=
  select (constantI S12672 1 0#1) (addi places (broadcastInDim S12672 ![] bcast_S_S12672 (constantI S_ 32 99#32))) places

/-- A table read at the positions. -/
def readTable (t : Vec F S99 .f32) : Vec F S12672 .f32 :=
  Host.gather gather_S99_S12672x1_S12672_n_0_n_n_0_1_1 t (broadcastInDim S12672x1 ![0] bcast_S12672_S12672x1_0 positions)

/-- A period block repeated 24 times down the rows of a pattern block. -/
def stack (p : Vec F S12672 .f32) : Vec F S2376x128 .f32 :=
  shapeCast S2376x128
    (broadcastInDim S24x99x1x128 ![0, 1, 2, 3] bcast_S1x99x1x128_S24x99x1x128_0_1_2_3
      (shapeCast S1x99x1x128 (shapeCast S99x128 p shapeCasts_S12672_S99x128) shapeCasts_S99x128_S1x99x1x128))
    shapeCasts_S24x99x1x128_S2376x128

variable (m : (ℓ : Loc nD τ sig) → Buf (Elt F) ℓ)

/-- The argument as the region finds it. -/
theorem rows_eq (c : Dev nD) :
    V m c main_call0_v0 = shapeCast S249480x128 (m ((c : Thread nD τ).loc main_arg0)) shapeCasts_S8x40320x99_S249480x128 := by
  show StableHlo.after (List.flatten [hostOps0]) (fun b => m (c, b)) (Proc.devRef .tc main_call0_v0) = _
  simp only [hostOps0, List.flatten_cons, List.flatten_nil, List.append_nil, List.cons_append,
    List.nil_append]
  after_results_simp
  rfl

set_option maxRecDepth 8192 in
set_option maxHeartbeats 1000000 in
/-- The factor block as the region finds it. -/
theorem scale_eq (c : Dev nD) : V m c main_call0_v28 = stack (readTable scaleTable) := by
  show StableHlo.after (List.flatten [hostOps0]) (fun b => m (c, b)) (Proc.devRef .tc main_call0_v28) = _
  simp only [hostOps0, List.flatten_cons, List.flatten_nil, List.append_nil, List.cons_append,
    List.nil_append]
  after_results_simp
  simp only [StableHlo.TRef.ofBuf_toBuf]
  simp -implicitDefEqProofs only [StableHlo.TRef.toBuf, StableHlo.TRef.ofBuf, cast_eq]
  rfl

set_option maxRecDepth 8192 in
set_option maxHeartbeats 1000000 in
/-- The shift block as the region finds it. -/
theorem shift_eq (c : Dev nD) : V m c main_call0_v37 = stack (readTable shiftTable) := by
  show StableHlo.after (List.flatten [hostOps0]) (fun b => m (c, b)) (Proc.devRef .tc main_call0_v37) = _
  simp only [hostOps0, List.flatten_cons, List.flatten_nil, List.append_nil, List.cons_append,
    List.nil_append]
  after_results_simp
  simp only [StableHlo.TRef.ofBuf_toBuf]
  simp -implicitDefEqProofs only [StableHlo.TRef.toBuf, StableHlo.TRef.ofBuf, cast_eq]
  rfl

end Cert.Affine

end
-- ==== Proof.Places.lean ====
/-
  Three host operations read at an index, at any extents: the scatter that sets ONE entry of a vector, the scatter that sets
  a RUN of consecutive entries of a vector, and, along the last axis of a rank-3 array, the scatter and the gather at
  the columns `o, o+1, …, o+n−1`. Nothing here names a program.
-/
module

public import Idealize.ShloMosaic.Lib.Routing.OpsSet

@[expose] public section

namespace Cert.Affine

open Idealize.ShloMosaic Idealize.ShloMosaic.ValueIdx Idealize.ShloMosaic.Routing

/-! ## One entry of a vector -/

/-- Where the one update of `v.at[o].set(u)` lands: at entry `e` exactly when the index word, read signed, is `e`. -/
theorem lands_entry {N : Nat} (d : ScatterDims ⟨1, ![N]⟩ ⟨1, ![1]⟩ ⟨0, ![]⟩) (huw : d.updateWindowDims = [])
    (hiw : d.insertedWindowDims = [0]) (hsd : d.scatterDimsToOperandDims = [0]) (hiv : d.indexVectorDim = 0)
    (idx : IVec ⟨1, ![1]⟩ 32) (k : (⟨0, ![]⟩ : Shape).Idx) (e : Fin N) :
    d.resultIdx? k idx = some (ix1 e) ↔ (idx (ix1 0)).toInt = (e.val : Int) := by
  obtain ⟨uw, iw, sd, iv, wf⟩ := d
  dsimp only at huw hiw hsd hiv
  subst huw hiw hsd hiv
  rw [resultIdx?_ix1]
  have hw : ScatterDims.window (⟨[], [0], [0], 0, wf⟩ : ScatterDims ⟨1, ![N]⟩ ⟨1, ![1]⟩ ⟨0, ![]⟩) k 0 = 0 := rfl
  have hs : ScatterDims.start (⟨[], [0], [0], 0, wf⟩ : ScatterDims ⟨1, ![N]⟩ ⟨1, ![1]⟩ ⟨0, ![]⟩) k idx 0 = (idx (ix1 0)).toInt := by
    unfold ScatterDims.start
    rw [dif_pos (List.mem_singleton.2 rfl)]
    refine congrArg (fun i => (idx i).toInt) (funext fun b => ?_)
    match b with
    | ⟨0, _⟩ => rfl
  rw [hw, hs]
  omega

/-- `v.at[o].set(u)` read at entry `e`: `u` at entry `o`, the old entry elsewhere. -/
theorem set_entry {α : Type} {N : Nat} (d : ScatterDims ⟨1, ![N]⟩ ⟨1, ![1]⟩ ⟨0, ![]⟩) (huw : d.updateWindowDims = [])
    (hiw : d.insertedWindowDims = [0]) (hsd : d.scatterDimsToOperandDims = [0]) (hiv : d.indexVectorDim = 0)
    (v : (⟨1, ![N]⟩ : Shape).Idx → α) (idx : IVec ⟨1, ![1]⟩ 32) (u : (⟨0, ![]⟩ : Shape).Idx → α) (o : Nat)
    (ho : (idx (ix1 0)).toInt = (o : Int)) (e : Fin N) :
    Host.scatter d (fun _ b => b) v idx u (ix1 e) = if e.val = o then u ix0 else v (ix1 e) := by
  have hl := fun k => lands_entry d huw hiw hsd hiv idx k e
  by_cases h : e.val = o
  · rw [if_pos h]
    exact scatter_set_hit d v idx u (ix1 e) (u ix0) (fun k _ => by rw [eq_ix0 k]) ix0 ((hl _).2 (by rw [ho]; omega))
  · rw [if_neg h]
    exact scatter_set_miss d v idx u (ix1 e) fun k q => h (by have := (hl k).1 q; omega)

/-! ## A run of entries of a vector -/

/-- Where update `k` of `v.at[o:o+K].set(u)` lands: at entry `e` exactly when the start word plus `k` is `e`. -/
theorem lands_run {N K : Nat} (d : ScatterDims ⟨1, ![N]⟩ ⟨1, ![1]⟩ ⟨1, ![K]⟩) (huw : d.updateWindowDims = [0])
    (hiw : d.insertedWindowDims = []) (hsd : d.scatterDimsToOperandDims = [0]) (hiv : d.indexVectorDim = 0)
    (idx : IVec ⟨1, ![1]⟩ 32) (k : Fin K) (e : Fin N) :
    d.resultIdx? (ix1 k) idx = some (ix1 e) ↔ (idx (ix1 0)).toInt + (k.val : Int) = (e.val : Int) := by
  obtain ⟨uw, iw, sd, iv, wf⟩ := d
  dsimp only at huw hiw hsd hiv
  subst huw hiw hsd hiv
  rw [resultIdx?_ix1]
  have hw : ScatterDims.window (⟨[0], [], [0], 0, wf⟩ : ScatterDims ⟨1, ![N]⟩ ⟨1, ![1]⟩ ⟨1, ![K]⟩) (ix1 k) 0 = k.val := rfl
  have hs : ScatterDims.start (⟨[0], [], [0], 0, wf⟩ : ScatterDims ⟨1, ![N]⟩ ⟨1, ![1]⟩ ⟨1, ![K]⟩) (ix1 k) idx 0 = (idx (ix1 0)).toInt := by
    unfold ScatterDims.start
    rw [dif_pos (List.mem_singleton.2 rfl)]
    refine congrArg (fun i => (idx i).toInt) (funext fun b => ?_)
    match b with
    | ⟨0, _⟩ => rfl
  rw [hw, hs]

/-- `v.at[o:o+K].set(u)` read at entry `e`: `u` at `e − o` inside the run, the old entry outside. -/
theorem set_run {α : Type} {N K : Nat} (d : ScatterDims ⟨1, ![N]⟩ ⟨1, ![1]⟩ ⟨1, ![K]⟩) (huw : d.updateWindowDims = [0])
    (hiw : d.insertedWindowDims = []) (hsd : d.scatterDimsToOperandDims = [0]) (hiv : d.indexVectorDim = 0)
    (v : (⟨1, ![N]⟩ : Shape).Idx → α) (idx : IVec ⟨1, ![1]⟩ 32) (u : (⟨1, ![K]⟩ : Shape).Idx → α) (o : Nat)
    (ho : (idx (ix1 0)).toInt = (o : Int)) (e : Fin N) :
    Host.scatter d (fun _ b => b) v idx u (ix1 e)
      = if h : o ≤ e.val ∧ e.val - o < K then u (ix1 ⟨e.val - o, h.2⟩) else v (ix1 e) := by
  have hl := fun k => lands_run d huw hiw hsd hiv idx k e
  by_cases h : o ≤ e.val ∧ e.val - o < K
  · rw [dif_pos h]
    refine scatter_set_hit d v idx u (ix1 e) _ (fun k q => ?_) (ix1 ⟨e.val - o, h.2⟩) ((hl _).2 (by rw [ho]; dsimp only; omega))
    obtain ⟨r, rfl⟩ : ∃ r : Fin K, k = ix1 r := ⟨k 0, eq_ix1 k⟩
    have := (hl r).1 q
    rw [ho] at this
    exact congrArg (fun j => u (ix1 j)) (Fin.ext (by dsimp only; omega))
  · rw [dif_neg h]
    refine scatter_set_miss d v idx u (ix1 e) fun k q => h ?_
    obtain ⟨r, rfl⟩ : ∃ r : Fin K, k = ix1 r := ⟨k 0, eq_ix1 k⟩
    have := (hl r).1 q
    rw [ho] at this
    have hk := r.isLt
    omega

/-! ## Columns of the last axis of a rank-3 array -/

/-- Where update `(i, j, k)` of `x.at[..., cols].set(u)` lands: in row `(i, j)`, at the column the `k`-th index word names. -/
theorem lands_column {A B C n : Nat} (d : ScatterDims ⟨3, ![A, B, C]⟩ ⟨2, ![n, 1]⟩ ⟨3, ![A, B, n]⟩)
    (huw : d.updateWindowDims = [0, 1]) (hiw : d.insertedWindowDims = [2]) (hsd : d.scatterDimsToOperandDims = [2])
    (hiv : d.indexVectorDim = 1) (idx : IVec ⟨2, ![n, 1]⟩ 32) (i : Fin A) (j : Fin B) (k : Fin n)
    (a : Fin A) (b : Fin B) (c : Fin C) :
    d.resultIdx? (ix3 i j k) idx = some (ix3 a b c)
      ↔ i.val = a.val ∧ j.val = b.val ∧ (idx (ix2 k 0)).toInt = (c.val : Int) := by
  obtain ⟨uw, iw, sd, iv, wf⟩ := d
  dsimp only at huw hiw hsd hiv
  subst huw hiw hsd hiv
  rw [resultIdx?_eq_some]
  set d : ScatterDims ⟨3, ![A, B, C]⟩ ⟨2, ![n, 1]⟩ ⟨3, ![A, B, n]⟩ := ⟨[0, 1], [2], [2], 1, wf⟩ with hd
  have hw0 : d.window (ix3 i j k) 0 = i.val := rfl
  have hw1 : d.window (ix3 i j k) 1 = j.val := rfl
  have hw2 : d.window (ix3 i j k) 2 = 0 := rfl
  have hs0 : d.start (ix3 i j k) idx 0 = 0 := rfl
  have hs1 : d.start (ix3 i j k) idx 1 = 0 := rfl
  have hs2 : d.start (ix3 i j k) idx 2 = (idx (ix2 k 0)).toInt := by
    unfold ScatterDims.start
    rw [dif_pos (List.mem_singleton.2 rfl)]
    refine congrArg (fun i => (idx i).toInt) (funext fun b => ?_)
    match b with
    | ⟨0, _⟩ => rfl
    | ⟨1, _⟩ => rfl
  constructor
  · intro h
    have h0 := h 0
    have h1 := h 1
    have h2 := h 2
    rw [hw0, hs0] at h0
    rw [hw1, hs1] at h1
    rw [hw2, hs2] at h2
    change _ = (a.val : Int) at h0
    change _ = (b.val : Int) at h1
    change _ = (c.val : Int) at h2
    omega
  · rintro ⟨h0, h1, h2⟩ x
    match x with
    | ⟨0, _⟩ => show d.start (ix3 i j k) idx 0 + (d.window (ix3 i j k) 0 : Int) = (a.val : Int); rw [hw0, hs0]; omega
    | ⟨1, _⟩ => show d.start (ix3 i j k) idx 1 + (d.window (ix3 i j k) 1 : Int) = (b.val : Int); rw [hw1, hs1]; omega
    | ⟨2, _⟩ => show d.start (ix3 i j k) idx 2 + (d.window (ix3 i j k) 2 : Int) = (c.val : Int); rw [hw2, hs2]; omega

/-- `x.at[..., o:o+n].set(u)`, the columns given as `n` index words, read at `(a, b, c)`: `u`'s column `c − o` inside the
    run, the old element outside. -/
theorem set_columns {α : Type} {A B C n : Nat} (d : ScatterDims ⟨3, ![A, B, C]⟩ ⟨2, ![n, 1]⟩ ⟨3, ![A, B, n]⟩)
    (huw : d.updateWindowDims = [0, 1]) (hiw : d.insertedWindowDims = [2]) (hsd : d.scatterDimsToOperandDims = [2])
    (hiv : d.indexVectorDim = 1) (x : (⟨3, ![A, B, C]⟩ : Shape).Idx → α) (idx : IVec ⟨2, ![n, 1]⟩ 32)
    (u : (⟨3, ![A, B, n]⟩ : Shape).Idx → α) (o : Nat) (ho : ∀ k : Fin n, (idx (ix2 k 0)).toInt = ((o + k.val : Nat) : Int))
    (a : Fin A) (b : Fin B) (c : Fin C) :
    Host.scatter d (fun _ b => b) x idx u (ix3 a b c)
      = if h : o ≤ c.val ∧ c.val - o < n then u (ix3 a b ⟨c.val - o, h.2⟩) else x (ix3 a b c) := by
  have hl := fun i j k => lands_column d huw hiw hsd hiv idx i j k a b c
  by_cases h : o ≤ c.val ∧ c.val - o < n
  · rw [dif_pos h]
    refine scatter_set_hit d x idx u (ix3 a b c) _ (fun k q => ?_) (ix3 a b ⟨c.val - o, h.2⟩)
      ((hl _ _ _).2 ⟨rfl, rfl, by rw [ho]; dsimp only; omega⟩)
    obtain ⟨i, j, r, rfl⟩ : ∃ (i : Fin A) (j : Fin B) (r : Fin n), k = ix3 i j r := ⟨k 0, k 1, k 2, eq_ix3 k⟩
    obtain ⟨h0, h1, h2⟩ := (hl i j r).1 q
    rw [ho] at h2
    have e2 : r = (⟨c.val - o, h.2⟩ : Fin n) := Fin.ext (by dsimp only; omega)
    rw [Fin.ext h0, Fin.ext h1, e2]
  · rw [dif_neg h]
    refine scatter_set_miss d x idx u (ix3 a b c) fun k q => h ?_
    obtain ⟨i, j, r, rfl⟩ : ∃ (i : Fin A) (j : Fin B) (r : Fin n), k = ix3 i j r := ⟨k 0, k 1, k 2, eq_ix3 k⟩
    have h2 := ((hl i j r).1 q).2.2
    rw [ho] at h2
    have hk := r.isLt
    omega

/-- `x[..., o:o+n]`, the columns given as `n` index words, read at `(i, j, k)`: column `o + k` of row `(i, j)`. -/
theorem take_columns {α : Type} {A B C n : Nat} (d : GatherDims ⟨3, ![A, B, C]⟩ ⟨2, ![n, 1]⟩ ⟨3, ![A, B, n]⟩)
    (hoff : d.offsetDims = [0, 1]) (hcol : d.collapsedSliceDims = [2]) (hob : d.operandBatchingDims = [])
    (hsb : d.startIndicesBatchingDims = []) (hsim : d.startIndexMap = [2]) (hiv : d.indexVectorDim = 1)
    (hsz : d.sliceSizes = ![A, B, 1]) (x : (⟨3, ![A, B, C]⟩ : Shape).Idx → α) (idx : IVec ⟨2, ![n, 1]⟩ 32)
    (o : Nat) (ho : ∀ k : Fin n, (idx (ix2 k 0)).toInt = ((o + k.val : Nat) : Int))
    (i : Fin A) (j : Fin B) (k : Fin n) (hC : o + k.val < C) :
    Host.gather d x idx (ix3 i j k) = x (ix3 i j ⟨o + k.val, hC⟩) := by
  obtain ⟨off, col, ob, sb, sim, iv, sz, wf⟩ := d
  dsimp only at hoff hcol hob hsb hsim hiv hsz
  subst hoff hcol hob hsb hsim hiv hsz
  set d : GatherDims ⟨3, ![A, B, C]⟩ ⟨2, ![n, 1]⟩ ⟨3, ![A, B, n]⟩ := ⟨[0, 1], [2], [], [], [2], 1, ![A, B, 1], wf⟩ with hd
  unfold Host.gather
  have hs2 : d.start (ix3 i j k) idx 2 = min (idx (ix2 k 0)).toInt.toNat (C - 1) := by
    unfold GatherDims.start
    rw [dif_pos (List.mem_singleton.2 rfl)]
    refine congrArg (fun i => min (idx i).toInt.toNat (C - 1)) (funext fun b => ?_)
    match b with
    | ⟨0, _⟩ => rfl
    | ⟨1, _⟩ => rfl
  refine congrArg x (funext fun a => Fin.ext ?_)
  match a with
  | ⟨0, _⟩ =>
    show 0 + 0 + i.val = i.val
    omega
  | ⟨1, _⟩ =>
    show 0 + 0 + j.val = j.val
    omega
  | ⟨2, _⟩ =>
    show d.start (ix3 i j k) idx 2 + 0 + 0 = o + k.val
    rw [hs2, ho]
    omega

end Cert.Affine
-- ==== Proof.Words.lean ====
/-
  A 32-bit float word read as an extended real: a word whose exponent field is not all ones denotes a real number, and a
  nonzero one when the exponent field is not zero either. Both programs read their tables of means and deviations as
  such words, so all that is asked of an entry is its exponent field.
-/
module

public import Idealize.ShloMosaic.PureOps.Ideal

@[expose] public section

noncomputable section

namespace Cert.Affine

open Idealize.ShloMosaic

/-- The exponent field of a 32-bit float word. -/
def expo (b : BitVec 32) : Nat := (b.extractLsb' 23 8).toNat

/-- A word whose exponent field is not all ones denotes a real number. -/
theorem word_real (b : BitVec 32) (h : expo b ≠ 255) : ∃ r : ℝ, Ideal.ofBits .f32 b = (r : EReal) := by
  unfold expo at h
  unfold Ideal.ofBits Ideal.ieee
  dsimp only
  rw [if_neg (by simpa using h)]
  split
  · exact ⟨_, rfl⟩
  · exact ⟨_, rfl⟩

/-- A word whose exponent field is neither all ones nor zero denotes a nonzero real number. -/
theorem word_real_ne (b : BitVec 32) (h : expo b ≠ 255) (h0 : expo b ≠ 0) :
    ∃ r : ℝ, r ≠ 0 ∧ Ideal.ofBits .f32 b = (r : EReal) := by
  unfold expo at h h0
  unfold Ideal.ofBits Ideal.ieee
  dsimp only
  rw [if_neg (by simpa using h), if_neg h0]
  refine ⟨_, ?_, rfl⟩
  refine mul_ne_zero (mul_ne_zero ?_ ?_) (zpow_ne_zero _ (by norm_num))
  · split <;> norm_num
  · exact_mod_cast (by positivity : (2 ^ 23 + (b.extractLsb' 0 23).toNat : Nat) ≠ 0)

/-- The word `0x3F800000` denotes one. -/
theorem word_one : Ideal.ofBits .f32 0x3F800000#32 = 1 := by
  simp [Ideal.ofBits, Ideal.ieee, -EReal.coe_mul]; norm_num

/-- The zero word denotes zero. -/
theorem word_zero : Ideal.ofBits .f32 0x00000000#32 = 0 := by
  simp [Ideal.ofBits, Ideal.ieee, -EReal.coe_mul]

/-! ## The affine forms -/

/-- `x · (1/d) + 0` is `x / d`. -/
theorem scale_form (x : EReal) (d : ℝ) (hd : d ≠ 0) : x * Ideal.div 1 d + 0 = Ideal.div x d := by
  have h0 : (d : EReal) ≠ 0 := by exact_mod_cast hd
  unfold Ideal.div
  rw [if_neg h0, if_neg h0, one_mul, add_zero]

/-- `x · (1/d) + (−(μ/d))` is `(x − μ) / d` for real `μ` and real nonzero `d`, at every extended real `x`. -/
theorem affine_form (x : EReal) (μ d : ℝ) (hd : d ≠ 0) :
    x * Ideal.div 1 d + -(Ideal.div μ d) = Ideal.div (x - μ) d := by
  have h0 : (d : EReal) ≠ 0 := by exact_mod_cast hd
  unfold Ideal.div
  rw [if_neg h0, if_neg h0, if_neg h0, one_mul, ← EReal.coe_inv, ← EReal.coe_mul, ← EReal.coe_neg]
  have hi : d⁻¹ ≠ 0 := inv_ne_zero hd
  induction x using EReal.rec with
  | coe r =>
    rw [← EReal.coe_mul, ← EReal.coe_add, ← EReal.coe_sub, ← EReal.coe_mul]
    exact congrArg _ (by ring)
  | bot =>
    rw [EReal.bot_sub]
    rcases lt_or_gt_of_ne hi with h | h
    · rw [EReal.bot_mul_coe_of_neg h, EReal.top_add_coe]
    · rw [EReal.bot_mul_coe_of_pos h, EReal.bot_add]
  | top =>
    rw [EReal.top_sub_coe]
    rcases lt_or_gt_of_ne hi with h | h
    · rw [EReal.top_mul_coe_of_neg h, EReal.bot_add]
    · rw [EReal.top_mul_coe_of_pos h, EReal.top_add_coe]

/-- `x · 1 + 0` is `x`. -/
theorem plain_form (x : EReal) : x * 1 + 0 = x := by rw [mul_one, add_zero]

end Cert.Affine

end
-- ==== Proof.Tables.lean ====
/- The two pattern blocks read an entry at a time: entry (r, l) of a block stands for the column the flat
   position r·128 + l of a run of rows falls in, that is (r·128 + l) mod 99, and holds that column's factor or
   shift. -/
module

public import proofs.«01_k».proof.Proof.Host
public import proofs.«01_k».proof.Proof.Places
public import proofs.«01_k».proof.Proof.Words

@[expose] public section

noncomputable section

namespace Cert.Affine

open Cert.KernelIdeal Cert.KernelIdeal.Gen
open Idealize.ShloMosaic Idealize.ShloMosaic.ValueIdx

/-! ## The positions -/

set_option maxRecDepth 65536 in
/-- The position named in row `r`, lane `l` of a period block, read off the list. -/
theorem listed : ∀ (r : Fin 99) (l : Fin 128),
    lit2 ⟨r.val * 128 + l.val, by omega⟩ = BitVec.ofNat 32 ((r.val * 128 + l.val) % 99) := by
  decide +kernel

/-- The position read at place `p` is `p mod 99`. -/
theorem positions_eq (p : Fin 12672) : positions (ix1 p) = BitVec.ofNat 32 (p.val % 99) := by
  have hp := p.isLt
  show lit2 (S12672.rowMajor (ix1 p)) = _
  have h : S12672.rowMajor (ix1 p)
      = ⟨(⟨p.val / 128, by omega⟩ : Fin 99).val * 128 + (⟨p.val % 128, by omega⟩ : Fin 128).val, by
          show p.val / 128 * 128 + p.val % 128 < 12672
          omega⟩ := by
    apply Fin.ext
    rw [Shape.rowMajor_val_one]
    show p.val = p.val / 128 * 128 + p.val % 128
    omega
  rw [h, listed]
  show BitVec.ofNat 32 ((p.val / 128 * 128 + p.val % 128) % 99) = _
  rw [show p.val / 128 * 128 + p.val % 128 = p.val from by omega]

variable {F : FTy → Type} [FloatOps F]

/-- A table read at place `p` is its entry `p mod 99`. -/
theorem readTable_eq (t : Vec F S99 .f32) (p : Fin 12672) :
    readTable t (ix1 p) = t (ix1 (⟨p.val % 99, Nat.mod_lt _ (by omega)⟩ : Fin 99)) := by
  unfold readTable
  refine Routing.gather_take1 _ rfl rfl rfl rfl t _ p ⟨p.val % 99, Nat.mod_lt _ (by omega)⟩ ?_ (by omega)
  rw [broadcastInDim_apply _ _ _ _ (ix1 p) (fun a => by match a with | ⟨0, _⟩ => rfl)]
  exact positions_eq p

/-- The repeated block at (r, l) is the period block at place (r mod 99)·128 + l. -/
theorem stack_eq (p : Vec F S12672 .f32) (r : Fin 2376) (l : Fin 128) (q : Fin 12672)
    (hq : q.val = r.val % 99 * 128 + l.val) : stack p (ix2 r l) = p (ix1 q) := by
  have hr := r.isLt
  have hl := l.isLt
  unfold stack
  rw [shapeCast_apply _ _ (ix2 r l)
    (ix4 (⟨r.val / 99, by omega⟩ : Fin 24) (⟨r.val % 99, by omega⟩ : Fin 99) (0 : Fin 1) l)
    (by
      rw [Shape.rowMajor_val_two, Shape.rowMajor_val_four]
      show ((r.val / 99 * 99 + r.val % 99) * 1 + 0) * 128 + l.val = r.val * 128 + l.val
      omega)]
  rw [broadcastInDim_apply _ _ _ _ (ix4 (0 : Fin 1) (⟨r.val % 99, by omega⟩ : Fin 99) (0 : Fin 1) l)
    (fun a => by match a with | ⟨0, _⟩ => rfl | ⟨1, _⟩ => rfl | ⟨2, _⟩ => rfl | ⟨3, _⟩ => rfl)]
  rw [shapeCast_apply _ _ _ (ix2 (⟨r.val % 99, by omega⟩ : Fin 99) l)
    (by
      rw [Shape.rowMajor_val_two, Shape.rowMajor_val_four]
      show r.val % 99 * 128 + l.val = ((0 * 99 + r.val % 99) * 1 + 0) * 128 + l.val
      omega)]
  rw [shapeCast_apply _ _ _ (ix1 q)
    (by
      rw [Shape.rowMajor_val_two, Shape.rowMajor_val_one]
      exact hq)]

/-- A table's pattern block at (r, l) is the table's entry for the column there. -/
theorem pattern_eq (t : Vec F S99 .f32) (r : Fin 2376) (l : Fin 128) (v : Fin 99)
    (hv : v.val = (r.val % 99 * 128 + l.val) % 99) : stack (readTable t) (ix2 r l) = t (ix1 v) := by
  have hl := l.isLt
  rw [stack_eq (readTable t) r l ⟨r.val % 99 * 128 + l.val, by omega⟩ rfl, readTable_eq]
  exact congrArg t (congrArg ix1 (Fin.ext hv.symm))

/-! ## The tables -/

/-- A table with one reciprocal put in. -/
theorem putInv_eq (t : Vec F S99 .f32) (p w : BitVec 32) (o : Nat) (ho : p.toInt = (o : Int)) (v : Fin 99) :
    putInv t p w (ix1 v)
      = if v.val = o then FloatOps.hostDivf (FloatOps.ofBits .f32 0x3F800000#32) (FloatOps.ofBits .f32 w) else t (ix1 v) :=
  set_entry _ rfl rfl rfl rfl t _ _ o ho v

/-- A table with its tail replaced. -/
theorem putTail_eq (t : Vec F S99 .f32) (u : Vec F S86 .f32) (v : Fin 99) :
    putTail t u (ix1 v)
      = if h : 13 ≤ v.val ∧ v.val - 13 < 86 then u (ix1 (⟨v.val - 13, h.2⟩ : Fin 86)) else t (ix1 v) :=
  set_run _ rfl rfl rfl rfl t _ u 13 rfl v

end Cert.Affine

end
-- ==== Proof.KernelValue.lean ====
/- What the region leaves in its output: each grid point writes one block of 2376 rows, the whole of its block of
   rows times the factor block plus the shift block, and the 105 blocks are all the rows. -/
module

public import proofs.«01_k».proof.Proof.Tables

@[expose] public section

noncomputable section

namespace Cert.Affine

open Cert.KernelIdeal Cert.KernelIdeal.Gen
open Idealize.ShloMosaic Idealize.ShloMosaic.ValueIdx Idealize.ShloMosaic.TcCoe Idealize.ShloMosaic.Pipeline Idealize.SL.Sem

variable {F : FTy → Type} [FloatOps F]
variable (m : (ℓ : Loc nD τ sig) → Buf (Elt F) ℓ)

/-- The place of an element of the rows in its block of 2376. -/
def place (i : S249480x128.Idx) : S2376x128.Idx :=
  ix2 (⟨(i 0).val % 2376, Nat.mod_lt _ (by omega)⟩ : Fin 2376) (⟨(i 1).val, (i 1).isLt⟩ : Fin 128)

/-- The place, known by its coordinates. -/
theorem place_eq (i : S249480x128.Idx) (y : S2376x128.Idx) (h0 : (i 0).val % 2376 = (y 0).val)
    (h1 : (i 1).val = (y 1).val) : place i = y := by
  funext d
  match d with
  | ⟨0, _⟩ => exact Fin.ext h0
  | ⟨1, _⟩ => exact Fin.ext h1

/-- Rows times a repeated block plus another: what the output array holds. -/
def affineRows (x : Vec F S249480x128 .f32) (a b : Vec F S2376x128 .f32) : Vec F S249480x128 .f32 := fun i =>
  FloatOps.addf (FloatOps.mulf (x i) (a (place i))) (b (place i))

/-- The stores' and loads' offsets are zero. -/
theorem off_zero : (![0, 0] : Fin 2 → Nat) = fun _ => 0 := by funext a; match a with | ⟨0, _⟩ => rfl | ⟨1, _⟩ => rfl

/-- The grid's one coordinate is the point itself. -/
theorem coord_val (t : Fin grid0.N) : (grid0.coords t 0).val = t.val := by
  have h : t.val < 105 := N_0 ▸ t.isLt
  rw [Grid.coords_val t 0 (S := 1) (B := 105) (by decide) rfl]
  omega

/-- The block index of the rows. -/
theorem index_in (t : Fin grid0.N) : win0_0.index t 0 = t.val := by
  have h : t.val < 105 := N_0 ▸ t.isLt
  show (BitVec.ofNat 32 (grid0.coords t 0).val).toNat = t.val
  rw [coord_val, BitVec.toNat_ofNat]
  omega

/-- The block index of the output. -/
theorem index_out (t : Fin grid0.N) : win0_3.index t 0 = t.val := index_in t

/-- Where an element of the block of rows sits in the array. -/
theorem rows_emb (t : Fin grid0.N) (y : S2376x128.Idx) :
    ((win0_0.rect t).emb y 0 : Nat) = t.val * 2376 + (y 0).val ∧ ((win0_0.rect t).emb y 1 : Nat) = (y 1).val := by
  constructor
  · rw [Window.rect_emb_val win0_0 t y 0, index_in]
    rfl
  · exact Window.rect_emb_val_of_index_zero win0_0 t 1 rfl y

/-- Where an element of the output's block sits in the array. -/
theorem out_emb (t : Fin grid0.N) (y : S2376x128.Idx) :
    ((win0_3.rect t).emb y 0 : Nat) = t.val * 2376 + (y 0).val ∧ ((win0_3.rect t).emb y 1 : Nat) = (y 1).val := by
  constructor
  · rw [Window.rect_emb_val win0_3 t y 0, index_out]
    rfl
  · exact Window.rect_emb_val_of_index_zero win0_3 t 1 rfl y

/-- The factor block is its whole array. -/
theorem scale_emb (t : Fin grid0.N) (y : S2376x128.Idx) : (win0_1.rect t).emb y = y := by
  funext a
  refine Fin.ext (Window.rect_emb_val_of_index_zero win0_1 t a ?_ y)
  match a with | ⟨0, _⟩ => rfl | ⟨1, _⟩ => rfl

/-- The shift block is its whole array. -/
theorem shift_emb (t : Fin grid0.N) (y : S2376x128.Idx) : (win0_2.rect t).emb y = y := by
  funext a
  refine Fin.ext (Window.rect_emb_val_of_index_zero win0_2 t a ?_ y)
  match a with | ⟨0, _⟩ => rfl | ⟨1, _⟩ => rfl

/-- The body's block from the windows' blocks of any arrays is the output's block of the whole expression. -/
theorem block_eq (t : Fin grid0.N) (x : Vec F S249480x128 .f32) (a b : Vec F S2376x128 .f32) :
    k0_pay1 ((win0_0.blk t).view.read (Elt F) x) ((win0_1.blk t).view.read (Elt F) a) ((win0_2.blk t).view.read (Elt F) b)
      = (win0_3.blk t).view.read (Elt F) (affineRows x a b) := by
  unfold k0_pay1
  simp only [shapeCast_self]
  funext (y : S2376x128.Idx)
  show FloatOps.addf
      (FloatOps.mulf (x ((win0_0.rect t).emb y)) (a ((win0_1.rect t).emb y))) (b ((win0_2.rect t).emb y))
    = affineRows x a b ((win0_3.rect t).emb y)
  rw [scale_emb, shift_emb]
  obtain ⟨h0, h1⟩ := out_emb t y
  have hx : (win0_0.rect t).emb y = (win0_3.rect t).emb y := by
    obtain ⟨g0, g1⟩ := rows_emb t y
    funext a
    match a with
    | ⟨0, _⟩ => exact Fin.ext (g0.trans h0.symm)
    | ⟨1, _⟩ => exact Fin.ext (g1.trans h1.symm)
  rw [hx]
  have hl : (y 0).val < 2376 := (y 0).isLt
  unfold affineRows
  rw [place_eq ((win0_3.rect t).emb y) y (by rw [h0]; omega) h1]

/-- What a point writes back is the output's block there. -/
theorem flushed_eq (c : Dev nD) (t : Fin cfg0.N) :
    (dats m 0 c).flushed 3 t
      = (win0_3.blk t).view.read (Elt F) (affineRows (V m c main_call0_v0) (V m c main_call0_v28) (V m c main_call0_v37)) := by
  show (cfg0.win 3).cut (grid0.coords t) ((dats m 0 c).after 3 t) = _
  rw [after0_3]
  unfold out0_3
  rw [View.canon_unit_zero off_zero, View.ld_unit_zero off_zero, View.ld_unit_zero off_zero, View.ld_unit_zero off_zero]
  exact block_eq t (V m c main_call0_v0) (V m c main_call0_v28) (V m c main_call0_v37)

/-- Every row is in the block of the point its block of rows belongs to. -/
theorem cover (i : S249480x128.Idx) :
    ∃ t : Fin cfg0.N, (cfg0.win 3).flush t = true ∧ i ∈ ((cfg0.win 3).blk t).view.set := by
  have hi : (i 0).val < 249480 := (i 0).isLt
  have hj : (i 1).val < 128 := (i 1).isLt
  obtain ⟨t, ht⟩ : ∃ t : Fin grid0.N, t.val = (i 0).val / 2376 := ⟨⟨(i 0).val / 2376, by rw [N_0]; omega⟩, rfl⟩
  refine ⟨t, flush0_3 t, ?_⟩
  obtain ⟨y, hy⟩ : ∃ y : S2376x128.Idx, (win0_3.rect t).emb y = i := by
    refine ⟨ix2 (⟨(i 0).val % 2376, Nat.mod_lt _ (by omega)⟩ : Fin 2376) (i 1 : Fin 128), ?_⟩
    obtain ⟨h0, h1⟩ := out_emb t (ix2 (⟨(i 0).val % 2376, Nat.mod_lt _ (by omega)⟩ : Fin 2376) (i 1 : Fin 128))
    funext a
    match a with
    | ⟨0, _⟩ =>
      refine Fin.ext (h0.trans ?_)
      show t.val * 2376 + (i 0).val % 2376 = (i 0).val
      omega
    | ⟨1, _⟩ => exact Fin.ext h1
  show i ∈ ((View.whole main_call0_v38).slice (win0_3.rect t)).set
  rw [← hy]
  exact View.emb_mem_set ((View.whole main_call0_v38).slice (win0_3.rect t)) y

/-- The output array when the region is done. -/
theorem out_eq (c : Dev nD) :
    (dats m 0 c).arrAt 3 cfg0.N = affineRows (V m c main_call0_v0) (V m c main_call0_v28) (V m c main_call0_v37) :=
  (dats m 0 c).arrAt_eq_of_cover 3 _ (fun t _ => flushed_eq m c t) cover

end Cert.Affine

end
-- ==== Proof.KernelResult.lean ====
/- The kernel's result: the rows laid back out as the argument is. An element in column v is the argument's
   there, times that column's factor, plus that column's shift. -/
module

public import proofs.«01_k».proof.Proof.KernelValue

@[expose] public section

noncomputable section

namespace Cert.Affine

open Cert.KernelIdeal Cert.KernelIdeal.Gen
open Idealize.ShloMosaic Idealize.ShloMosaic.ValueIdx Idealize.ShloMosaic.TcCoe Idealize.SL.Sem

variable {F : FTy → Type} [FloatOps F]

/-- What the kernel computes of an argument. -/
def kernelResult (x : Vec F S8x40320x99 .f32) : Vec F S8x40320x99 .f32 :=
  shapeCast S8x40320x99
    (affineRows (shapeCast S249480x128 x shapeCasts_S8x40320x99_S249480x128) (stack (readTable scaleTable))
      (stack (readTable shiftTable)))
    shapeCasts_S249480x128_S8x40320x99

/-- The rows laid out as the argument is. -/
theorem unflatten_eq (y : Vec F S249480x128 .f32) (i : Fin 8) (j : Fin 40320) (v : Fin 99) (r : Fin 249480) (l : Fin 128)
    (h : r.val * 128 + l.val = (i.val * 40320 + j.val) * 99 + v.val) :
    shapeCast S8x40320x99 y shapeCasts_S249480x128_S8x40320x99 (ix3 i j v) = y (ix2 r l) := by
  refine shapeCast_apply _ _ (ix3 i j v) (ix2 r l) ?_
  rw [Shape.rowMajor_val_two, Shape.rowMajor_val_three]
  exact h

/-- The argument laid out as rows. -/
theorem flatten_eq (x : Vec F S8x40320x99 .f32) (i : Fin 8) (j : Fin 40320) (v : Fin 99) (r : Fin 249480) (l : Fin 128)
    (h : r.val * 128 + l.val = (i.val * 40320 + j.val) * 99 + v.val) :
    shapeCast S249480x128 x shapeCasts_S8x40320x99_S249480x128 (ix2 r l) = x (ix3 i j v) := by
  refine shapeCast_apply _ _ (ix2 r l) (ix3 i j v) ?_
  rw [Shape.rowMajor_val_two, Shape.rowMajor_val_three]
  exact h.symm

/-- One element of the kernel's result, its row and lane named. -/
theorem kernelResult_at (x : Vec F S8x40320x99 .f32) (i : Fin 8) (j : Fin 40320) (v : Fin 99) (r : Fin 249480) (l : Fin 128)
    (h : r.val * 128 + l.val = (i.val * 40320 + j.val) * 99 + v.val) :
    kernelResult x (ix3 i j v)
      = FloatOps.addf (FloatOps.mulf (x (ix3 i j v)) (scaleTable (ix1 v))) (shiftTable (ix1 v)) := by
  unfold kernelResult
  rw [unflatten_eq _ i j v r l h]
  unfold affineRows
  rw [flatten_eq x i j v r l h]
  have hb : r.val % 2376 < 2376 := Nat.mod_lt _ (by omega)
  have hq : place (ix2 r l) = ix2 (⟨r.val % 2376, hb⟩ : Fin 2376) l := rfl
  have hv := v.isLt
  have hl := l.isLt
  have hc : v.val = (r.val % 2376 % 99 * 128 + l.val) % 99 := by
    have h1 : r.val % 2376 % 99 = r.val % 99 := by omega
    rw [h1]
    generalize i.val * 40320 + j.val = q at h
    omega
  rw [hq, pattern_eq scaleTable ⟨r.val % 2376, hb⟩ l v hc, pattern_eq shiftTable ⟨r.val % 2376, hb⟩ l v hc]

/-- One element of the kernel's result. -/
theorem kernelResult_eq (x : Vec F S8x40320x99 .f32) (i : Fin 8) (j : Fin 40320) (v : Fin 99) :
    kernelResult x (ix3 i j v)
      = FloatOps.addf (FloatOps.mulf (x (ix3 i j v)) (scaleTable (ix1 v))) (shiftTable (ix1 v)) := by
  have hi := i.isLt
  have hj := j.isLt
  have hv := v.isLt
  refine kernelResult_at x i j v ⟨((i.val * 40320 + j.val) * 99 + v.val) / 128, by omega⟩
    ⟨((i.val * 40320 + j.val) * 99 + v.val) % 128, Nat.mod_lt _ (by omega)⟩ ?_
  exact Nat.div_add_mod' _ 128

variable (m : (ℓ : Loc nD τ sig) → Buf (Elt F) ℓ) (ρ : Dev nD → PrngReg)

/-- The result buffer when the program is done. -/
theorem tail_eq (c : Dev nD) :
    Pipeline.afterTail₀ cfgs (dats m) 0 (V0 m) [hostOps1] c main_v0
      = kernelResult (m ((c.tc : Thread nD τ).loc main_arg0)) := by
  unfold Pipeline.afterTail₀
  show StableHlo.after hostOps1 _ (Proc.devRef .tc main_v0) = _
  after_results_simp
  have h : Pipeline.withArrays (cfgs 0).spec c (V0 m c) (fun w => (dats m 0 c).arrAt w (cfgs 0).N) (Proc.devRef .tc main_call0_v38)
      = (dats m 0 c).arrAt 3 cfg0.N :=
    Pipeline.withArrays_arr spec0 winFacts0.arr_inj c (V0 m c) (fun w => (dats m 0 c).arrAt w cfg0.N) 3
  rw [h, out_eq, rows_eq, scale_eq, shift_eq]
  rfl

/-- The kernel runs to its result, its argument unchanged. -/
theorem kernel_run :
    θ_run defs (onTc (τ := τ) (main (F := F))) ⟨m, fun _ => 0, ρ⟩ fun r => ∀ c : Dev nD,
      r.2.mem ((c.tc : Thread nD τ).loc main_v0) = kernelResult (m ((c.tc : Thread nD τ).loc main_arg0))
      ∧ r.2.mem ((c.tc : Thread nD τ).loc main_arg0) = m ((c.tc : Thread nD τ).loc main_arg0) :=
  (θ_run defs _ _).mono
    (fun r h c => ⟨((h.1 c).2 main_v0 (Pipeline.mem_restRefs_of main_v0 (by decide) (by decide))).trans (tail_eq m c), h.2 c⟩)
    (θ_run_and (run_main m ρ) (unchanged m ρ))

end Cert.Affine

end
-- ==== Proof.ReferenceResult.lean ====
/- The reference's result: the columns 10, 11, 12 divided by their numbers, then the last 86 columns less their
   means and divided by their deviations. -/
module

public import proofs.«01_k».proof.Proof.Gen.ReferenceIdeal.Run
public import proofs.«01_k».proof.Proof.Places

@[expose] public section

noncomputable section

namespace Cert.Affine.Reference

open Cert.ReferenceIdeal Cert.ReferenceIdeal.Facts₀ Cert.ReferenceIdeal.Facts
open Idealize.ShloMosaic Idealize.ShloMosaic.ValueIdx Idealize.ShloMosaic.TcCoe Idealize.SL.Sem

variable {F : FTy → Type} [FloatOps F]

/-- The positions of the three divided columns. -/
def threePlaces : IVec S3x1 32 :=
  broadcastInDim S3x1 ![0] bcast_S3_S3x1_0
    (select (cmpi .slt (fun i => lit0 (S3.rowMajor i)) (broadcastInDim S3 ![] bcast_S_S3 (constantI S_ 32 0#32)))
      (addi (fun i => lit0 (S3.rowMajor i)) (broadcastInDim S3 ![] bcast_S_S3 (constantI S_ 32 99#32)))
      (fun i => lit0 (S3.rowMajor i)))

/-- The numbers 13, 14, …, 98. -/
def tailNumbers : IVec S86 32 := addi (broadcastInDim S86 ![] bcast_S_S86 (constantI S_ 32 13#32)) (iotaInDim S86 32 0)

/-- The positions of the last 86 columns. -/
def tailPlaces : IVec S86x1 32 :=
  broadcastInDim S86x1 ![0] bcast_S86_S86x1_0
    (select (cmpi .slt tailNumbers (broadcastInDim S86 ![] bcast_S_S86 (constantI S_ 32 0#32)))
      (addi tailNumbers (broadcastInDim S86 ![] bcast_S_S86 (constantI S_ 32 99#32))) tailNumbers)

/-- The three divisors. -/
def divisors : Vec F S3 .f32 := fun i => FloatOps.ofBits .f32 (lit1 (S3.rowMajor i))

/-- The means of the last 86 columns. -/
def means : Vec F S86 .f32 := fun i => FloatOps.ofBits .f32 (lit2 (S86.rowMajor i))

/-- The deviations of the last 86 columns. -/
def devs : Vec F S86 .f32 := fun i => FloatOps.ofBits .f32 (lit3 (S86.rowMajor i))

/-- One number per column, for all rows: three columns. -/
def perColumn3 (t : Vec F S3 .f32) : Vec F S8x40320x3 .f32 :=
  broadcastInDim S8x40320x3 ![0, 1, 2] bcast_S1x1x3_S8x40320x3_0_1_2 (broadcastInDim S1x1x3 ![2] bcast_S3_S1x1x3_2 t)

/-- One number per column, for all rows: 86 columns. -/
def perColumn86 (t : Vec F S86 .f32) : Vec F S8x40320x86 .f32 :=
  broadcastInDim S8x40320x86 ![0, 1, 2] bcast_S1x1x86_S8x40320x86_0_1_2
    (broadcastInDim S1x1x86 ![2] bcast_S86_S1x1x86_2 t)

/-- The argument with its three columns divided. -/
def divided (x : Vec F S8x40320x99 .f32) : Vec F S8x40320x99 .f32 :=
  Host.scatter scatter_S8x40320x99_S3x1_S8x40320x3_01_2_2_1 (fun _ b => b) x threePlaces
    (Host.divf (Host.gather gather_S8x40320x99_S3x1_S8x40320x3_01_2_n_n_2_1_8403201 x threePlaces) (perColumn3 divisors))

/-- The argument with its last 86 columns standardized. -/
def standardized (x : Vec F S8x40320x99 .f32) : Vec F S8x40320x99 .f32 :=
  Host.scatter scatter_S8x40320x99_S86x1_S8x40320x86_01_2_2_1 (fun _ b => b) x tailPlaces
    (Host.divf
      (subf (Host.gather gather_S8x40320x99_S86x1_S8x40320x86_01_2_n_n_2_1_8403201 x tailPlaces) (perColumn86 means))
      (perColumn86 devs))

/-- The reference runs to its result, its argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = standardized (divided (m ((c.tc : Thread nD τ).loc main_arg0)))
      ∧ r.2.mem ((c.tc : Thread nD τ).loc main_arg0) = m ((c.tc : Thread nD τ).loc main_arg0) :=
  Cert.ReferenceIdeal.Value.run m ρ

/-! ## The positions -/

/-- The three positions are 10, 11, 12. -/
theorem threePlaces_eq (k : Fin 3) : (threePlaces (ix2 k 0)).toInt = ((10 + k.val : Nat) : Int) := by
  unfold threePlaces
  rw [broadcastInDim_apply _ _ _ _ (ix1 k) (fun a => by match a with | ⟨0, _⟩ => rfl)]
  match k with
  | ⟨0, _⟩ => rfl
  | ⟨1, _⟩ => rfl
  | ⟨2, _⟩ => rfl

/-- The last positions are 13, 14, … -/
theorem tailPlaces_eq (k : Fin 86) : (tailPlaces (ix2 k 0)).toInt = ((13 + k.val : Nat) : Int) := by
  have hk := k.isLt
  unfold tailPlaces
  rw [broadcastInDim_apply _ _ _ _ (ix1 k) (fun a => by match a with | ⟨0, _⟩ => rfl)]
  have e : tailNumbers (ix1 k) = BitVec.ofNat 32 (13 + k.val) := by
    show BitVec.ofNat 32 13 + BitVec.ofNat 32 k.val = _
    rw [BitVec.ofNat_add]
  show (Scalar.select (IntOp.cmpi .slt (tailNumbers (ix1 k)) 0#32) _ (tailNumbers (ix1 k))).toInt = _
  rw [e, Routing.wrap_of_lt _ _ (by rw [BitVec.toNat_ofNat]; omega)]
  exact StableHlo.Predicate.toInt_ofNat_small _ (by omega)

/-! ## The elements -/

/-- A number per column read at an element: three columns. -/
theorem perColumn3_eq (t : Vec F S3 .f32) (i : Fin 8) (j : Fin 40320) (k : Fin 3) : perColumn3 t (ix3 i j k) = t (ix1 k) := by
  unfold perColumn3
  rw [broadcastInDim_apply _ _ _ _ (ix3 (0 : Fin 1) (0 : Fin 1) k)
    (fun a => by match a with | ⟨0, _⟩ => rfl | ⟨1, _⟩ => rfl | ⟨2, _⟩ => rfl)]
  rw [broadcastInDim_apply _ _ _ _ (ix1 k) (fun a => by match a with | ⟨0, _⟩ => rfl)]

/-- A number per column read at an element: 86 columns. -/
theorem perColumn86_eq (t : Vec F S86 .f32) (i : Fin 8) (j : Fin 40320) (k : Fin 86) :
    perColumn86 t (ix3 i j k) = t (ix1 k) := by
  unfold perColumn86
  rw [broadcastInDim_apply _ _ _ _ (ix3 (0 : Fin 1) (0 : Fin 1) k)
    (fun a => by match a with | ⟨0, _⟩ => rfl | ⟨1, _⟩ => rfl | ⟨2, _⟩ => rfl)]
  rw [broadcastInDim_apply _ _ _ _ (ix1 k) (fun a => by match a with | ⟨0, _⟩ => rfl)]

/-- An element after the three divisions. -/
theorem divided_eq (x : Vec F S8x40320x99 .f32) (i : Fin 8) (j : Fin 40320) (v : Fin 99) :
    divided x (ix3 i j v)
      = if h : 10 ≤ v.val ∧ v.val - 10 < 3 then
          FloatOps.hostDivf (x (ix3 i j v)) (divisors (ix1 (⟨v.val - 10, h.2⟩ : Fin 3)))
        else x (ix3 i j v) := by
  unfold divided
  rw [set_columns _ rfl rfl rfl rfl x threePlaces _ 10 threePlaces_eq i j v]
  by_cases h : 10 ≤ v.val ∧ v.val - 10 < 3
  · rw [dif_pos h, dif_pos h]
    unfold Host.divf
    rw [perColumn3_eq, take_columns _ rfl rfl rfl rfl rfl rfl rfl x threePlaces 10 threePlaces_eq i j ⟨v.val - 10, h.2⟩
      (by show 10 + (v.val - 10) < 99; omega)]
    congr 3
    exact Fin.ext (by show 10 + (v.val - 10) = v.val; omega)
  · rw [dif_neg h, dif_neg h]

/-- An element after the standardization. -/
theorem standardized_eq (x : Vec F S8x40320x99 .f32) (i : Fin 8) (j : Fin 40320) (v : Fin 99) :
    standardized x (ix3 i j v)
      = if h : 13 ≤ v.val ∧ v.val - 13 < 86 then
          FloatOps.hostDivf (FloatOps.subf (x (ix3 i j v)) (means (ix1 (⟨v.val - 13, h.2⟩ : Fin 86))))
            (devs (ix1 (⟨v.val - 13, h.2⟩ : Fin 86)))
        else x (ix3 i j v) := by
  unfold standardized
  rw [set_columns _ rfl rfl rfl rfl x tailPlaces _ 13 tailPlaces_eq i j v]
  by_cases h : 13 ≤ v.val ∧ v.val - 13 < 86
  · rw [dif_pos h, dif_pos h]
    unfold Host.divf subf
    rw [perColumn86_eq, perColumn86_eq, take_columns _ rfl rfl rfl rfl rfl rfl rfl x tailPlaces 13 tailPlaces_eq i j
      ⟨v.val - 13, h.2⟩ (by show 13 + (v.val - 13) < 99; omega)]
    congr 4
    exact Fin.ext (by show 13 + (v.val - 13) = v.val; omega)
  · rw [dif_neg h, dif_neg h]

end Cert.Affine.Reference

end
-- ==== Proof.Equation.lean ====
/- The two results are one function of the argument, over the extended reals: column by column, the kernel's
   factor and shift are the reference's division (after a subtraction, in the last columns). -/
module

public import proofs.«01_k».proof.Proof.KernelResult
public import proofs.«01_k».proof.Proof.ReferenceResult

@[expose] public section

noncomputable section

namespace Cert.Affine

open Idealize.ShloMosaic Idealize.ShloMosaic.ValueIdx

/-! ## The constants -/

/-- A scalar word as the extended real it denotes. -/
abbrev num (b : BitVec 32) : EReal := Ideal.ofBits .f32 b

/-- The two programs hold the same means. -/
theorem means_words : ∀ k : Fin 86, Cert.KernelIdeal.lit0 k = Cert.ReferenceIdeal.lit2 k := by decide +kernel

/-- The two programs hold the same deviations. -/
theorem devs_words : ∀ k : Fin 86, Cert.KernelIdeal.lit1 k = Cert.ReferenceIdeal.lit3 k := by decide +kernel

/-- The means are real numbers. -/
theorem means_finite : ∀ k : Fin 86, expo (Cert.KernelIdeal.lit0 k) ≠ 255 := by decide +kernel

/-- The deviations are real numbers and not zero. -/
theorem devs_finite : ∀ k : Fin 86, expo (Cert.KernelIdeal.lit1 k) ≠ 255 ∧ expo (Cert.KernelIdeal.lit1 k) ≠ 0 := by
  decide +kernel

/-- The reference's table of means is the kernel's. -/
theorem means_eq : Reference.means (F := Ideal) = means (F := Ideal) :=
  funext fun i => congrArg (FloatOps.ofBits (F := Ideal) .f32) (means_words (Cert.KernelIdeal.S86.rowMajor i)).symm

/-- The reference's table of deviations is the kernel's. -/
theorem devs_eq : Reference.devs (F := Ideal) = devs (F := Ideal) :=
  funext fun i => congrArg (FloatOps.ofBits (F := Ideal) .f32) (devs_words (Cert.KernelIdeal.S86.rowMajor i)).symm

/-- A mean is a real number. -/
theorem means_real (i : Cert.KernelIdeal.S86.Idx) : ∃ r : ℝ, means (F := Ideal) i = (r : EReal) :=
  word_real _ (means_finite _)

/-- A deviation is a nonzero real number. -/
theorem devs_real (i : Cert.KernelIdeal.S86.Idx) : ∃ r : ℝ, r ≠ 0 ∧ devs (F := Ideal) i = (r : EReal) :=
  word_real_ne _ (devs_finite _).1 (devs_finite _).2

/-! ## The kernel's columns -/

/-- The factor of a column. -/
theorem scale_at (v : Fin 99) :
    scaleTable (F := Ideal) (ix1 v)
      = if h : 13 ≤ v.val ∧ v.val - 13 < 86 then Ideal.div 1 (devs (F := Ideal) (ix1 (⟨v.val - 13, h.2⟩ : Fin 86)))
        else if v.val = 12 then Ideal.div 1 (num 0x41500000#32)
        else if v.val = 11 then Ideal.div 1 (num 0x41400000#32)
        else if v.val = 10 then Ideal.div 1 (num 0x41300000#32)
        else (1 : EReal) := by
  unfold scaleTable
  rw [putTail_eq, putInv_eq _ _ _ 12 rfl, putInv_eq _ _ _ 11 rfl, putInv_eq _ _ _ 10 rfl]
  show (if h : 13 ≤ v.val ∧ v.val - 13 < 86 then
      Ideal.div (Ideal.ofBits .f32 0x3F800000#32) (devs (F := Ideal) (ix1 (⟨v.val - 13, h.2⟩ : Fin 86)))
    else if v.val = 12 then Ideal.div (Ideal.ofBits .f32 0x3F800000#32) (num 0x41500000#32)
    else if v.val = 11 then Ideal.div (Ideal.ofBits .f32 0x3F800000#32) (num 0x41400000#32)
    else if v.val = 10 then Ideal.div (Ideal.ofBits .f32 0x3F800000#32) (num 0x41300000#32)
    else Ideal.ofBits .f32 0x3F800000#32) = _
  rw [word_one]

/-- The shift of a column. -/
theorem shift_at (v : Fin 99) :
    shiftTable (F := Ideal) (ix1 v)
      = if h : 13 ≤ v.val ∧ v.val - 13 < 86 then
          -(Ideal.div (means (F := Ideal) (ix1 (⟨v.val - 13, h.2⟩ : Fin 86)))
            (devs (F := Ideal) (ix1 (⟨v.val - 13, h.2⟩ : Fin 86))))
        else (0 : EReal) := by
  unfold shiftTable
  rw [putTail_eq]
  show (if h : 13 ≤ v.val ∧ v.val - 13 < 86 then
      -(Ideal.div (means (F := Ideal) (ix1 (⟨v.val - 13, h.2⟩ : Fin 86)))
        (devs (F := Ideal) (ix1 (⟨v.val - 13, h.2⟩ : Fin 86))))
    else Ideal.ofBits .f32 0x00000000#32) = _
  rw [word_zero]

/-! ## The equation -/

/-- The element in the first ten columns, untouched. -/
theorem equal_plain (x s h : EReal) (hs : s = 1) (hh : h = 0) : x * s + h = x := by
  rw [hs, hh]
  exact plain_form x

/-- The element in a divided column. -/
theorem equal_divided (x s h : EReal) (w : BitVec 32) (hw : expo w ≠ 255 ∧ expo w ≠ 0) (hs : s = Ideal.div 1 (num w))
    (hh : h = 0) : x * s + h = Ideal.div x (num w) := by
  obtain ⟨d, hd, e⟩ := word_real_ne w hw.1 hw.2
  rw [hs, hh, num, e]
  exact scale_form x d hd

/-- The results agree at every element. -/
theorem results_at (x : Vec Ideal Cert.KernelIdeal.S8x40320x99 .f32) (i : Fin 8) (j : Fin 40320) (v : Fin 99) :
    kernelResult (F := Ideal) x (ix3 i j v) = Reference.standardized (F := Ideal) (Reference.divided (F := Ideal) x) (ix3 i j v) := by
  have hv := v.isLt
  rw [kernelResult_eq, Reference.standardized_eq, Reference.divided_eq, means_eq, devs_eq, scale_at, shift_at]
  generalize x (ix3 i j v) = a
  by_cases h : 13 ≤ v.val ∧ v.val - 13 < 86
  · rw [dif_pos h, dif_pos h, dif_pos h, dif_neg (by omega)]
    obtain ⟨μ, eμ⟩ := means_real (ix1 (⟨v.val - 13, h.2⟩ : Fin 86))
    obtain ⟨d, hd, ed⟩ := devs_real (ix1 (⟨v.val - 13, h.2⟩ : Fin 86))
    rw [eμ, ed]
    exact affine_form a μ d hd
  · rw [dif_neg h, dif_neg h, dif_neg h]
    by_cases h12 : v.val = 12
    · rw [if_pos h12, dif_pos (by omega)]
      have e : (⟨v.val - 10, by omega⟩ : Fin 3) = 2 := Fin.ext (by show v.val - 10 = 2; omega)
      rw [e]
      exact equal_divided a _ _ 0x41500000#32 (by decide) rfl rfl
    · rw [if_neg h12]
      by_cases h11 : v.val = 11
      · rw [if_pos h11, dif_pos (by omega)]
        have e : (⟨v.val - 10, by omega⟩ : Fin 3) = 1 := Fin.ext (by show v.val - 10 = 1; omega)
        rw [e]
        exact equal_divided a _ _ 0x41400000#32 (by decide) rfl rfl
      · rw [if_neg h11]
        by_cases h10 : v.val = 10
        · rw [if_pos h10, dif_pos (by omega)]
          have e : (⟨v.val - 10, by omega⟩ : Fin 3) = 0 := Fin.ext (by show v.val - 10 = 0; omega)
          rw [e]
          exact equal_divided a _ _ 0x41300000#32 (by decide) rfl rfl
        · rw [if_neg h10, dif_neg (by omega)]
          exact equal_plain a _ _ rfl rfl

/-- The kernel's result is the reference's. -/
theorem results_eq (x : Vec Ideal Cert.KernelIdeal.S8x40320x99 .f32) :
    Reference.standardized (F := Ideal) (Reference.divided (F := Ideal) x) = kernelResult (F := Ideal) x := by
  funext p
  rw [eq_ix3 p]
  exact (results_at x _ _ _).symm

end Cert.Affine

end
-- ==== Proof.lean ====
/- The certificate: the three frames, the kernel's idealization (the same program), and the equation of the
   kernel's result with the reference's over the extended reals. The frames of the two kernel programs are the generated ones;
   the reference's comes from its run; the equation is Proof/Equation.lean's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference terminates, its argument unchanged and every semaphore counter at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.Affine.Reference.run (F := Ideal) m ρ)

/-- Both programs run to the kernel's result of the one argument. -/
theorem equation : Cert.algebraic_KernelIdeal_ReferenceIdeal := fun m g m' g' _ hagree =>
  ⟨fun c => Cert.Affine.kernelResult (F := Ideal)
      (m ((c.tc : Thread Cert.KernelIdeal.nD Cert.KernelIdeal.τ).loc Cert.KernelIdeal.main_arg0)),
    Cert.Affine.kernel_run (F := Ideal) m g,
    (θ_run Cert.ReferenceIdeal.defs _ _).mono
      (fun _ h c => ⟨(h c).1.trans
        ((congrArg (fun x => Cert.Affine.Reference.standardized (F := Ideal) (Cert.Affine.Reference.divided (F := Ideal) x))
          (hagree c)).trans (Cert.Affine.results_eq _)), (h c).2⟩)
      (Cert.Affine.Reference.run (F := Ideal) m' g')⟩

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, equation⟩

end Cert.Proof

end
